-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S100000 : Shape := ⟨1, ![100000]⟩
abbrev S1 : Shape := ⟨1, ![1]⟩
abbrev S40000x128 : Shape := ⟨2, ![40000, 128]⟩
abbrev S30000x128 : Shape := ⟨2, ![30000, 128]⟩
abbrev S100000x128 : Shape := ⟨2, ![100000, 128]⟩
abbrev S10000x128 : Shape := ⟨2, ![10000, 128]⟩

abbrev nBuf : Space → Nat
  | .hbm => 7
  | .vmem => 2
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S1, .f32⟩
  | .hbm, ⟨3, _⟩ => ⟨S40000x128, .f32⟩
  | .hbm, ⟨4, _⟩ => ⟨S30000x128, .f32⟩
  | .hbm, ⟨5, _⟩ => ⟨S30000x128, .f32⟩
  | .hbm, ⟨6, _⟩ => ⟨S100000x128, .f32⟩
  | .local _ .vmem, ⟨0, _⟩ => ⟨S10000x128, .f32⟩
  | .local _ .vmem, ⟨1, _⟩ => ⟨S10000x128, .f32⟩
  | _, _ => ⟨S100000, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S100000 : Shape := ⟨1, ![100000]⟩
abbrev S1 : Shape := ⟨1, ![1]⟩
abbrev S40000x128 : Shape := ⟨2, ![40000, 128]⟩
abbrev S30000x128 : Shape := ⟨2, ![30000, 128]⟩
abbrev S_ : Shape := ⟨0, ![]⟩
abbrev S100000x128 : Shape := ⟨2, ![100000, 128]⟩

abbrev nBuf : Space → Nat
  | .hbm => 8
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S1, .f32⟩
  | .hbm, ⟨3, _⟩ => ⟨S40000x128, .f32⟩
  | .hbm, ⟨4, _⟩ => ⟨S30000x128, .f32⟩
  | .hbm, ⟨5, _⟩ => ⟨S30000x128, .f32⟩
  | .hbm, ⟨6, _⟩ => ⟨S_, .f32⟩
  | .hbm, ⟨7, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩

abbrev nD : Nat := 1
abbrev τ : Topo := Topo.v7x

variable {F : FTy → Type} [FloatOps F]
-- ==== Proof.ZeroFill.lean ====
/-
  The tiled zero fill (`Kernel.lean`): every run of it terminates, leaves the f32 word of zero at every index of its
  result array, its six arguments as they were, and every semaphore counter at zero.

  The grid has ten points; point `t` writes back rows `10000 t … 10000 t + 9999`. The body loads nothing that it uses
  and stores the splat of zero over the whole staging buffer (`body_triple`), so each block written back is zero
  (`after_apply`); the blocks tile the array (`covers`), so the array is (`result_eq`). The float values stay abstract:
  the claims read the run at the words and at the extended reals.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic

@[expose] public section

-- a rectangle of 10000 rows: the look at its axes recurses once per coordinate
set_option maxRecDepth 16384

noncomputable section

namespace Cert.Kernel.ZeroFill

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The body's one store goes through this rectangle: the whole staging buffer. -/
abbrev wholeBlock : Rect S10000x128 :=
  Rect.unit (s := S10000x128) ![0, 0] S10000x128.size Facts₀.inb_S10000x128_S10000x128_0_0

/-- What the store leaves in the staging buffer. -/
def filled : Vec F S10000x128 .f32 := View.canon [⟨wholeBlock, k0_pay1 (F := F)⟩]

/-- It is zero at every index. -/
theorem filled_apply (y : S10000x128.Idx) : filled y = (FloatOps.ofBits .f32 0x00000000#32 : F .f32) := by
  have e : filled (F := F) = k0_pay1 := View.canon_cons_unit_lit _ _ _ (by decide)
  rw [e]
  rfl

/-- The body, on a staging buffer with anything in it, returns with `filled` there. -/
theorem body_triple (c : Dev nD) (i : grid0.Coords) (stg : Memref sig .tc .vmem S10000x128 .f32) (hstg : stg.IsWhole)
    (K : PUnit → sProp 𝕄) :
    iprop((∃ d, owns (c : Thread nD τ) stg fullShare d) ∗ (owns (c : Thread nD τ) stg fullShare filled -∗ K ⟨⟩))
      ⊢ wp frame (wpE (defs₀ (F := F)) Variants.none c none) Set.univ (cc0__zero_fill_kernel i stg hstg) K := by
  simp only [cc0__zero_fill_kernel_eq_skeleton]
  unfold cc0__zero_fill_kernel_skel owns
  iintro ⟨⟨%d, %f, -, H⟩, Hk⟩
  sl_exec
  sl_step
  iapply Hk
  iexists _; isplitr
  swap; · iexact H
  ipureintro
  exact View.read_writes_eq_canon _ _ _ (View.cover_of_tiled _ S10000x128.size (by rfl))

/-! ## The pipeline -/

/-- The arrays when the region is entered: as launched, @main being the region alone. -/
abbrev entry (c : Dev nD) (b : Ref sig .tc) : Buf (Elt F) ((c : Thread nD τ).loc b) := m ((c : Thread nD τ).loc b)

/-- The pipeline's proof data: after the body at any point the staging buffer holds `filled`; the invariant is the
    class's own, nothing is owed, and the shares are full. -/
def dats (_ : Fin 1) (c : Dev nD) : Dat τ (Elt F) Unit ℕ (UR sig nD τ) ℕ cfg0 c where
  A w := entry m c (Pipeline.arrRef spec0 w)
  after w _ := match w with
    | ⟨0, _⟩ => filled
  Φ _ := Pipeline.ΦA spec0 c
  q _ := fullShare
  owed _ := 0

theorem dats_A (c : Dev nD) (w : Fin cfg0.W) : (dats m 0 c).A w = entry m c (Pipeline.arrRef spec0 w) := by
  dsimp only [dats]

theorem dats_after (c : Dev nD) (t : Fin cfg0.N) : (dats m 0 c).after 0 t = filled := by dsimp only [dats]

/-- The body at point `t`: the invariant and the tally of what is owed pass by, the staging buffer ends `filled`. -/
theorem body_at (c : Dev nD) (t : Fin cfg0.N) :
    iprop((dats m 0 c).Φ t.castSucc ∗ (dats m 0 c).owesAt () t.castSucc
        ∗ (∃ d, owns (c : Thread nD τ) (st0_0 t) fullShare ((dats m 0 c).before 0 t d)))
      ⊢ wp frame (wpE (defs₀ (F := F)) Variants.none c none) Set.univ (bodyAt0 t) fun _ =>
        iprop((dats m 0 c).Φ t.succ ∗ (dats m 0 c).owesAt () t.succ
          ∗ owns (c : Thread nD τ) (st0_0 t) fullShare ((dats m 0 c).after 0 t)) := by
  unfold bodyAt0
  rw [show (dats m 0 c).Φ t.succ = (dats m 0 c).Φ t.castSucc from rfl,
    show (dats m 0 c).owesAt () t.succ = (dats m 0 c).owesAt () t.castSucc from rfl, dats_after]
  iintro ⟨HΦ, Ho, ⟨%d, H⟩⟩
  iapply (body_triple c (grid0.coords t) _ _ _)
  isplitl [H]; · iexists _; iexact H
  iintro H
  isplitl [HΦ]; · iexact HΦ
  isplitl [Ho]; · iexact Ho
  iexact H

/-- The body table's row at point `t` is that body. -/
theorem row_eq (t : Fin cfg0.N) : defs₀ (F := F) .tc cfg0.body (cfg0.bodyArgs t (cfg0.slots t)) = bodyAt0 t := by
  unfold defs₀; rw [Defs.onTc_tc]

/-- So the body does what the pipeline asks of it at every point. -/
theorem body_obligation (c : Dev nD) :
    BodyObligation (dats (F := F) m 0 c) (defs₀ (F := F)) Variants.none () Set.univ := fun t => by
  rw [bigSep_W0, bigSep_W0, row_eq]
  exact triple_restated (body_at m c t) rfl .rfl fun _ => .rfl

-- the launch theorem's implicit arguments are found by unifying its conclusion with this one
set_option backward.isDefEq.respectTransparency.types false in
set_option maxHeartbeats 800000 in
/-- The launch: the arrays end as the proof data say, the other buffers as they were, every counter at zero. -/
theorem run_pipeline : θ_run defs (onTc (τ := τ) (main (F := F))) (s₀ m ρ)
    fun r => Pipeline.FramePost cfgs (dats m) 0 (entry m) r ∧ r.2.sem = fun _ => 0 :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := entry m)
    (hmain := Pipeline.hmain_region cfgs 0 defs₀ Variants.none m main fun c => (main_chain c).trans rfl)
    (hA := dats_A m) (hΦ := fun _ _ => rfl)

/-! ## The result -/

/-- The (100000, 128) array of zeros: what the result is shown to hold. -/
abbrev zeros (c : Dev nD) : Buf (Elt F) ((c : Thread nD τ).loc main_v0) :=
  constant S100000x128 .f32 0x00000000#32

/-- The ten blocks of 10000 rows, every one of them written back, leave no element of the result out. -/
theorem covers : (cfg0.win 0).Covers := by decide +kernel

/-- After the body at any grid point the staging buffer holds zero at every index. -/
theorem after_apply (c : Dev nD) (t : Fin cfg0.N) (y : S10000x128.Idx) :
    (dats m 0 c).after 0 t y = (FloatOps.ofBits .f32 0x00000000#32 : F .f32) := by
  rw [dats_after]
  exact filled_apply y

/-- So the result array ends as the array of zeros, whatever it held at the launch. -/
theorem result_eq (c : Dev nD) : (dats m 0 c).arrAt 0 cfg0.N = zeros c :=
  (dats m 0 c).arrAt_eq_of_covers 0 (zeros c) covers fun t _ _ => after_apply m c t _

/-- A buffer that is no window's array ends as it was launched; each of the six arguments is one. -/
theorem kept {r : PUnit × MemSt nD τ sig (Elt F)} (h : Pipeline.FramePost cfgs (dats m) 0 (entry m) r) (c : Dev nD)
    (b : Ref sig .tc) (hb : b ∈ Pipeline.restRefs sig spec0) :
    r.2.mem ((c : Thread nD τ).loc b) = m ((c : Thread nD τ).loc b) :=
  (h c).2 b hb

/-- The kernel's run: the result array is all zeros, the six arguments are as they were, the counters are zero. -/
theorem run : θ_run defs (onTc (τ := τ) (main (F := F))) ⟨m, fun _ => 0, ρ⟩ fun r => (∀ c : Dev nD,
      r.2.mem ((c : Thread nD τ).loc main_v0) = zeros c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0 :=
  (θ_run defs _ _).mono (fun _ h => ⟨fun c => ⟨((h.1 c).1 0).trans (result_eq m c),
      kept m h.1 c _ (Pipeline.mem_restRefs_of _ (by decide) (by decide)),
      kept m h.1 c _ (Pipeline.mem_restRefs_of _ (by decide) (by decide)),
      kept m h.1 c _ (Pipeline.mem_restRefs_of _ (by decide) (by decide)),
      kept m h.1 c _ (Pipeline.mem_restRefs_of _ (by decide) (by decide)),
      kept m h.1 c _ (Pipeline.mem_restRefs_of _ (by decide) (by decide)),
      kept m h.1 c _ (Pipeline.mem_restRefs_of _ (by decide) (by decide))⟩, h.2⟩)
    (run_pipeline m ρ)

end Cert.Kernel.ZeroFill

end
-- ==== Proof.ZeroFillIdeal.lean ====
/-
  The idealized zero fill (`KernelIdeal.lean`) is the kernel's own text, so its run is the kernel's (`ZeroFill.run`,
  which leaves the float values abstract).
-/
module

public import proofs.«01_k».proof.Proof.ZeroFill
public import proofs.«01_k».proof.Proof.Gen.KernelIdeal

@[expose] public section

noncomputable section

namespace Cert.KernelIdeal.ZeroFill

open Cert.KernelIdeal Idealize.ShloMosaic Idealize.ShloMosaic.TcCoe Idealize.SL.Sem

variable {F : FTy → Type} [FloatOps F]
/-- The two programs have one body table. -/
theorem defs_eq : defs (F := F) = Cert.Kernel.defs := by sl_kernel_rfl

variable (m : (ℓ : Loc nD τ sig) → Buf (Elt F) ℓ) (ρ : Dev nD → PrngReg)

/-- The (100000, 128) array of zeros: what the result is shown to hold. -/
abbrev zeros (c : Dev nD) : Buf (Elt F) ((c : Thread nD τ).loc main_v0) :=
  constant S100000x128 .f32 0x00000000#32

/-- The idealized kernel's run: the result array is all zeros, the six arguments are as they were, the counters are
    zero. -/
theorem run : θ_run defs (onTc (τ := τ) (main (F := F))) ⟨m, fun _ => 0, ρ⟩ fun r => (∀ c : Dev nD,
      r.2.mem ((c : Thread nD τ).loc main_v0) = zeros c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0 :=
  defs_eq (F := F) ▸ Cert.Kernel.ZeroFill.run m ρ

end Cert.KernelIdeal.ZeroFill

end
-- ==== Proof.lean ====
/-
  The certificate of the tiled zero fill: five claims about the kernel (its frame, its idealization's frame, the
  reference's frame, that the idealization changes nothing, and that kernel and reference agree over the extended
  reals), and beyond them the reference's frame at the words and that kernel and reference end with the same words.

  `ZeroFill` has the kernel's run and what it leaves in its result, `ZeroFillIdeal` the idealization's. Here the reference's broadcast zero is
  read as the same array, and the claims are put together.
-/
module

public import proofs.«01_k».proof.Defs
public import proofs.«01_k».proof.Proof.ZeroFill
public import proofs.«01_k».proof.Proof.ZeroFillIdeal
public import proofs.«01_k».proof.Proof.Gen.Reference.Run
public import proofs.«01_k».proof.Proof.Gen.ReferenceIdeal.Run
public import Idealize.ShloMosaic.Lib.Quiescent

@[expose] public section

noncomputable section

namespace Cert.Proof

open Idealize.ShloMosaic Idealize.SL.Sem

/-- The reference at the words: it runs, its arguments end unchanged, and it declares no semaphore. -/
theorem frame_reference : Cert.quiescent_Reference := fun m ρ _ =>
  (θ_run Cert.Reference.defs _ _).mono
    (fun r h => ⟨fun c => (h c).2, sem_eq_zero_of_no_sems (by decide) r.2⟩)
    (Cert.Reference.Value.run (F := Bits) m ρ)

/-- The same over the extended reals. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's frame, and its idealization's: their runs without what they say of the result. -/
theorem frame_kernel : Cert.quiescent_Kernel := fun m ρ _ =>
  (θ_run Cert.Kernel.defs _ _).mono (fun _ h => ⟨fun c => (h.1 c).2, h.2⟩) (Cert.Kernel.ZeroFill.run (F := Bits) m ρ)

theorem frame_kernelIdeal : Cert.quiescent_KernelIdeal := fun m ρ _ =>
  (θ_run Cert.KernelIdeal.defs _ _).mono (fun _ h => ⟨fun c => (h.1 c).2, h.2⟩)
    (Cert.KernelIdeal.ZeroFill.run (F := Ideal) m ρ)

/-- Over the extended reals the kernel's blocks of zeros and the reference's one broadcast zero are the same array. -/
theorem algebraic : Cert.algebraic_KernelIdeal_ReferenceIdeal := fun m ρ m' ρ' _ _ =>
  ⟨Cert.KernelIdeal.ZeroFill.zeros,
    (θ_run Cert.KernelIdeal.defs _ _).mono (fun _ h => h.1) (Cert.KernelIdeal.ZeroFill.run m ρ),
    (θ_run Cert.ReferenceIdeal.defs _ _).mono (fun _ h c => ⟨(h c).1.trans rfl, (h c).2⟩)
      (Cert.ReferenceIdeal.Value.run m' ρ')⟩

/-- And so they are as words: every element of both is the word of `+0`. -/
theorem bitexact : Cert.bitexact_Kernel_Reference := fun m ρ m' ρ' _ _ =>
  ⟨Cert.Kernel.ZeroFill.zeros,
    (θ_run Cert.Kernel.defs _ _).mono (fun _ h => h.1) (Cert.Kernel.ZeroFill.run m ρ),
    (θ_run Cert.Reference.defs _ _).mono (fun _ h c => ⟨(h c).1.trans rfl, (h c).2⟩)
      (Cert.Reference.Value.run m' ρ')⟩

/-- All the claims together. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
